-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_types_in_table [hPre_types_in_table : Cert.Pre_types_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_types_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_types_in_table [hPre_types_in_table : Cert.Pre_types_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_types_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_types_in_table [hKernelIdeal : Cert.KernelIdeal.Facts] [hPre_types_in_table : Cert.Pre_types_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_types_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_types_in_table [hReferenceIdeal : Cert.ReferenceIdeal.Facts] [hPre_types_in_table : Cert.Pre_types_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_types_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_types_in_table [hKernelIdeal : Cert.KernelIdeal.Facts] [hReferenceIdeal : Cert.ReferenceIdeal.Facts] [hPre_types_in_table : Cert.Pre_types_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_types_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_types_in_table : Cert.Pre_types_in_table.Facts),
    quiescent_Kernel (hKernel := hKernel)
    ∧ quiescent_KernelIdeal (hKernelIdeal := hKernelIdeal)
    ∧ quiescent_KernelIdeal_pre_types_in_table (hKernelIdeal := hKernelIdeal) (hPre_types_in_table := hPre_types_in_table)
    ∧ quiescent_ReferenceIdeal (hReferenceIdeal := hReferenceIdeal)
    ∧ quiescent_ReferenceIdeal_pre_types_in_table (hReferenceIdeal := hReferenceIdeal) (hPre_types_in_table := hPre_types_in_table)
    ∧ preserves_Kernel_KernelIdeal
    ∧ algebraic_KernelIdeal_ReferenceIdeal_pre_types_in_table (hKernelIdeal := hKernelIdeal) (hReferenceIdeal := hReferenceIdeal) (hPre_types_in_table := hPre_types_in_table)
-- ==== Pre_types_in_table.lean ====
abbrev S32x2048x64 : Shape := ⟨3, ![32, 2048, 64]⟩
abbrev S32 : Shape := ⟨1, ![32]⟩
abbrev S32x64 : Shape := ⟨2, ![32, 64]⟩
abbrev S128x512 : Shape := ⟨2, ![128, 512]⟩
abbrev S512 : Shape := ⟨1, ![512]⟩
abbrev S512x1024 : Shape := ⟨2, ![512, 1024]⟩
abbrev S1024 : Shape := ⟨1, ![1024]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x2048x64 .f32) (main_arg1 : IVec S32 32) (main_arg2 : FVec F S32x64 .f32) (main_arg3 : FVec F S128x512 .f32) (main_arg4 : FVec F S512 .f32) (main_arg5 : FVec F S512x1024 .f32) (main_arg6 : FVec F S1024 .f32) : IVec S32 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 32#32
  let main_v2 : IVec S32 32 := broadcastInDim S32 ![] bcast_S_S32 main_c_0
  let main_v3 : IVec S32 1 := cmpi .slt main_arg1 main_v2
  let main_v4 : IVec S32 1 := andi main_v1 main_v3
  main_v4
-- ==== Kernel.lean ====
abbrev S32x2048x64 : Shape := ⟨3, ![32, 2048, 64]⟩
abbrev S32 : Shape := ⟨1, ![32]⟩
abbrev S32x64 : Shape := ⟨2, ![32, 64]⟩
abbrev S128x512 : Shape := ⟨2, ![128, 512]⟩
abbrev S512 : Shape := ⟨1, ![512]⟩
abbrev S512x1024 : Shape := ⟨2, ![512, 1024]⟩
abbrev S1024 : Shape := ⟨1, ![1024]⟩
abbrev S1x32 : Shape := ⟨2, ![1, 32]⟩
abbrev S64x512 : Shape := ⟨2, ![64, 512]⟩
abbrev S1x512 : Shape := ⟨2, ![1, 512]⟩
abbrev S1x1024 : Shape := ⟨2, ![1, 1024]⟩
abbrev S32x2048x1024 : Shape := ⟨3, ![32, 2048, 1024]⟩
abbrev S2x2048x64 : Shape := ⟨3, ![2, 2048, 64]⟩
abbrev S2x2048x1024 : Shape := ⟨3, ![2, 2048, 1024]⟩
abbrev S16x2x512 : Shape := ⟨3, ![16, 2, 512]⟩
abbrev S32x32 : Shape := ⟨2, ![32, 32]⟩
abbrev S32x512 : Shape := ⟨2, ![32, 512]⟩
abbrev S4096x64 : Shape := ⟨2, ![4096, 64]⟩
abbrev S4096x512 : Shape := ⟨2, ![4096, 512]⟩
abbrev S1x2x512 : Shape := ⟨3, ![1, 2, 512]⟩
abbrev S2x512 : Shape := ⟨2, ![2, 512]⟩
abbrev S2x2048x512 : Shape := ⟨3, ![2, 2048, 512]⟩
abbrev S2x1x512 : Shape := ⟨3, ![2, 1, 512]⟩
abbrev S4096x1024 : Shape := ⟨2, ![4096, 1024]⟩

abbrev nBuf : Space → Nat
  | .hbm => 15
  | .vmem => 12
  | .smem => 0
  | _ => 0

abbrev bufTy : (tb : Table) → Fin (tcTables nBuf tb) → BufTy
  | .hbm, ⟨0, _⟩ => ⟨S32x2048x64, .f32⟩
  | .hbm, ⟨1, _⟩ => ⟨S32, .i32⟩
  | .hbm, ⟨2, _⟩ => ⟨S32x64, .f32⟩
  | .hbm, ⟨3, _⟩ => ⟨S128x512, .f32⟩
  | .hbm, ⟨4, _⟩ => ⟨S512, .f32⟩
  | .hbm, ⟨5, _⟩ => ⟨S512x1024, .f32⟩
  | .hbm, ⟨6, _⟩ => ⟨S1024, .f32⟩
  | .hbm, ⟨7, _⟩ => ⟨S1x32, .i32⟩
  | .hbm, ⟨8, _⟩ => ⟨S64x512, .f32⟩
  | .hbm, ⟨9, _⟩ => ⟨S64x512, .bf16⟩
  | .hbm, ⟨10, _⟩ => ⟨S64x512, .f32⟩
  | .hbm, ⟨11, _⟩ => ⟨S1x512, .f32⟩
  | .hbm, ⟨12, _⟩ => ⟨S512x1024, .bf16⟩
  | .hbm, ⟨13, _⟩ => ⟨S1x1024, .f32⟩
  | .hbm, ⟨14, _⟩ => ⟨S32x2048x1024, .f32⟩
  | .local _ .vmem, ⟨0, _⟩ => ⟨S2x2048x64, .f32⟩
  | .local _ .vmem, ⟨1, _⟩ => ⟨S2x2048x64, .f32⟩
  | .local _ .vmem, ⟨2, _⟩ => ⟨S1x32, .i32⟩
  | .local _ .vmem, ⟨3, _⟩ => ⟨S32x64, .f32⟩
  | .local _ .vmem, ⟨4, _⟩ => ⟨S64x512, .f32⟩
  | .local _ .vmem, ⟨5, _⟩ => ⟨S1x512, .f32⟩
  | .local _ .vmem, ⟨6, _⟩ => ⟨S64x512, .bf16⟩
  | .local _ .vmem, ⟨7, _⟩ => ⟨S512x1024, .bf16⟩
  | .local _ .vmem, ⟨8, _⟩ => ⟨S1x1024, .f32⟩
  | .local _ .vmem, ⟨9, _⟩ => ⟨S2x2048x1024, .f32⟩
  | .local _ .vmem, ⟨10, _⟩ => ⟨S2x2048x1024, .f32⟩
  | .local _ .vmem, ⟨11, _⟩ => ⟨S16x2x512, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let v9 : Index := Scalar.indexCast arg0
  let c0_5 : Index := 0#32
  let c0_6 : Index := 0#32
  ![v9.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x2048x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S32x2048x64 : Shape := ⟨3, ![32, 2048, 64]⟩
abbrev S32 : Shape := ⟨1, ![32]⟩
abbrev S32x64 : Shape := ⟨2, ![32, 64]⟩
abbrev S128x512 : Shape := ⟨2, ![128, 512]⟩
abbrev S512 : Shape := ⟨1, ![512]⟩
abbrev S512x1024 : Shape := ⟨2, ![512, 1024]⟩
abbrev S1024 : Shape := ⟨1, ![1024]⟩
abbrev S32x1 : Shape := ⟨2, ![32, 1]⟩
abbrev S32x2048 : Shape := ⟨2, ![32, 2048]⟩
abbrev S_ : Shape := ⟨0, ![]⟩
abbrev S32x2048x1 : Shape := ⟨3, ![32, 2048, 1]⟩
abbrev S1 : Shape := ⟨1, ![1]⟩
abbrev S1x1x1 : Shape := ⟨3, ![1, 1, 1]⟩
abbrev S32x2048x128 : Shape := ⟨3, ![32, 2048, 128]⟩
abbrev S32x2048x512 : Shape := ⟨3, ![32, 2048, 512]⟩
abbrev S1x1x512 : Shape := ⟨3, ![1, 1, 512]⟩
abbrev S32x2048x1024 : Shape := ⟨3, ![32, 2048, 1024]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32, .i32⟩
  | .hbm, ⟨2, _⟩ => ⟨S32x64, .f32⟩
  | .hbm, ⟨3, _⟩ => ⟨S128x512, .f32⟩
  | .hbm, ⟨4, _⟩ => ⟨S512, .f32⟩
  | .hbm, ⟨5, _⟩ => ⟨S512x1024, .f32⟩
  | .hbm, ⟨6, _⟩ => ⟨S1024, .f32⟩
  | .hbm, ⟨7, _⟩ => ⟨S32x1, .i32⟩
  | .hbm, ⟨8, _⟩ => ⟨S32x2048, .i32⟩
  | .hbm, ⟨9, _⟩ => ⟨S_, .i32⟩
  | .hbm, ⟨10, _⟩ => ⟨S32x2048, .i32⟩
  | .hbm, ⟨11, _⟩ => ⟨S32x2048, .i1⟩
  | .hbm, ⟨12, _⟩ => ⟨S_, .i32⟩
  | .hbm, ⟨13, _⟩ => ⟨S32x2048, .i32⟩
  | .hbm, ⟨14, _⟩ => ⟨S32x2048, .i32⟩
  | .hbm, ⟨15, _⟩ => ⟨S32x2048, .i32⟩
  | .hbm, ⟨16, _⟩ => ⟨S32x2048x1, .i32⟩
  | .hbm, ⟨17, _⟩ => ⟨S1, .i32⟩
  | .hbm, ⟨18, _⟩ => ⟨S_, .i32⟩
  | .hbm, ⟨19, _⟩ => ⟨S32x2048x1, .i32⟩
  | .hbm, ⟨20, _⟩ => ⟨S32x2048x1, .i1⟩
  | .hbm, ⟨21, _⟩ => ⟨S1x1x1, .i32⟩
  | .hbm, ⟨22, _⟩ => ⟨S32x2048x1, .i32⟩
  | .hbm, ⟨23, _⟩ => ⟨S32x2048x1, .i1⟩
  | .hbm, ⟨24, _⟩ => ⟨S32x2048x1, .i1⟩
  | .hbm, ⟨25, _⟩ => ⟨S_, .i1⟩
  | .hbm, ⟨26, _⟩ => ⟨S32x2048, .i1⟩
  | .hbm, ⟨27, _⟩ => ⟨S32x2048x64, .f32⟩
  | .hbm, ⟨28, _⟩ => ⟨S32x2048x64, .i1⟩
  | .hbm, ⟨29, _⟩ => ⟨S_, .f32⟩
  | .hbm, ⟨30, _⟩ => ⟨S32x2048x64, .f32⟩
  | .hbm, ⟨31, _⟩ => ⟨S32x2048x64, .f32⟩
  | .hbm, ⟨32, _⟩ => ⟨S32x2048x128, .f32⟩
  | .hbm, ⟨33, _⟩ => ⟨S32x2048x512, .f32⟩
  | .hbm, ⟨34, _⟩ => ⟨S1x1x512, .f32⟩
  | .hbm, ⟨35, _⟩ => ⟨S32x2048x512, .f32⟩
  | .hbm, ⟨36, _⟩ => ⟨S32x2048x512, .f32⟩
  | .hbm, ⟨37, _⟩ => ⟨S_, .f32⟩
  | .hbm, ⟨38, _⟩ => ⟨S32x2048x512, .f32⟩
  | .hbm, ⟨39, _⟩ => ⟨S32x2048x512, .f32⟩
  | .hbm, ⟨40, _⟩ => ⟨S32x2048x1024, .f32⟩
  | .hbm, ⟨41, _⟩ => ⟨S1x1x1024, .f32⟩
  | .hbm, ⟨42, _⟩ => ⟨S32x2048x1024, .f32⟩
  | .hbm, ⟨43, _⟩ => ⟨S32x2048x1024, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_call1_cst : Ref sig .tc := ⟨.hbm, 37, rfl⟩
abbrev main_call1_v0 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩

abbrev nD : Nat := 1
abbrev τ : Topo := Topo.v7x

variable {F : FTy → Type} [FloatOps F]
-- ==== Proof.RefTake.lean ====
module

public import proofs.«01_k».proof.Proof.Gen.ReferenceIdeal
public import Idealize.ShloMosaic.Lib.Pointwise

/-!
The reference's look-up in the embedding table, read at an index: where every action type is a row number of the table,
it is that row.
-/

@[expose] public section
set_option maxRecDepth 16384
noncomputable section

namespace Cert.ReferenceIdeal.Take

open Cert.ReferenceIdeal Cert.ReferenceIdeal.Gen Idealize.ShloMosaic

/-- The action types, one for each batch row and time. -/
def types (a : IVec S32 32) : IVec S32x2048 32 :=
  broadcastInDim S32x2048 ![0, 1] bcast_S32x1_S32x2048_0_1 (broadcastInDim S32x1 ![0] bcast_S32_S32x1_0 a)

/-- The row numbers looked up: a negative action type counts from the end of the table. -/
def places (a : IVec S32 32) : IVec S32x2048x1 32 :=
  broadcastInDim S32x2048x1 ![0, 1] bcast_S32x2048_S32x2048x1_0_1
    (select (cmpi .slt (types a) (broadcastInDim S32x2048 ![] bcast_S_S32x2048 (constantI S_ 32 0#32)))
      (addi (types a) (broadcastInDim S32x2048 ![] bcast_S_S32x2048 (constantI S_ 32 32#32))) (types a))

/-- Whether each row number lies in the table. -/
def inside (a : IVec S32 32) : IVec S32x2048 1 :=
  Host.reduce IntOp.andi
    (andi (cmpi .sge (places a) (broadcastInDim S32x2048x1 ![] bcast_S_S32x2048x1 (constantI S_ 32 0#32)))
      (cmpi .sle (places a) (broadcastInDim S32x2048x1 ![0, 1, 2] bcast_S1x1x1_S32x2048x1_0_1_2
        (broadcastInDim S1x1x1 ![2] bcast_S1_S1x1x1_2 (constantI S1 32 31#32)))))
    (constantI S_ 1 1#1) reducesTo_S32x2048x1_S32x2048_d2 h_S_

/-- The looked-up rows. -/
def taken (e : FVec Ideal S32x64 .f32) (a : IVec S32 32) : FVec Ideal S32x2048x64 .f32 :=
  select (broadcastInDim S32x2048x64 ![0, 1] bcast_S32x2048_S32x2048x64_0_1 (inside a))
    (Host.gather gather_S32x64_S32x2048x1_S32x2048x64_2_0_n_n_0_2_164 e (places a))
    (broadcastInDim S32x2048x64 ![] bcast_S_S32x2048x64 (constant S_ .f32 0x7FC00000#32))

/-- The row number looked up at a batch row whose action type is the number `k` below 32 is `k`. -/
theorem places_at (a : IVec S32 32) (b : Fin 32) (p : Fin 2048) (z : Fin 1) (k : Fin 32) (hk : a (ix1 b) = BitVec.ofNat 32 k.val) :
    places a (ix3 b p z) = BitVec.ofNat 32 k.val := by
  have h : places a (ix3 b p z) = Scalar.select (IntOp.cmpi .slt (a (ix1 b)) 0#32) (IntOp.addi (a (ix1 b)) 32#32) (a (ix1 b)) := by
    pointwise [places, types]
  rw [h, hk]
  clear h hk
  revert k; decide

/-- The two tests of a row number below 32 both succeed. -/
theorem bounds (k : Fin 32) :
    IntOp.andi (IntOp.cmpi .sge (BitVec.ofNat 32 k.val) 0#32) (IntOp.cmpi .sle (BitVec.ofNat 32 k.val) 31#32) = 1#1 := by
  revert k; decide

/-- If every action type is a row number of the table then every look-up lies inside it. -/
theorem inside_at (a : IVec S32 32) (k : Fin 32 → Fin 32) (hk : ∀ b, a (ix1 b) = BitVec.ofNat 32 (k b).val)
    (b : Fin 32) (p : Fin 2048) : inside a (ix2 b p) = 1#1 := by
  unfold inside
  rw [Host.reduce_eq_fold]
  refine (Finset.fold_congr (g := fun _ => 1#1) fun i _ => ?_).trans ?_
  · idx_vars i
    have hp := places_at a i0 i1 i2 (k i0) (hk i0)
    pointwise
    rw [hp]
    exact bounds (k i0)
  · refine (Finset.fold_const _ (by decide)).trans (ite_self _)

/-- The look-up's operand index: the row number looked up, and the column of the result. -/
theorem gather_at (e : FVec Ideal S32x64 .f32) (idx : IVec S32x2048x1 32) (b : Fin 32) (p : Fin 2048) (j : Fin 64) (k : Fin 32)
    (hk : idx (ix3 b p 0) = BitVec.ofNat 32 k.val) :
    Host.gather gather_S32x64_S32x2048x1_S32x2048x64_2_0_n_n_0_2_164 e idx (ix3 b p j) = e (ix2 k j) := by
  unfold Host.gather
  refine congrArg e (funext fun a => Fin.ext ?_)
  match a with
  | ⟨0, _⟩ =>
    have hs : gather_S32x64_S32x2048x1_S32x2048x64_2_0_n_n_0_2_164.siIdx (ix3 b p j) ⟨0, by decide⟩ = ix3 b p 0 := by
      funext c
      match c with
      | ⟨0, _⟩ => rfl
      | ⟨1, _⟩ => rfl
      | ⟨2, _⟩ => rfl
    show min (idx (gather_S32x64_S32x2048x1_S32x2048x64_2_0_n_n_0_2_164.siIdx (ix3 b p j) ⟨0, by decide⟩)).toInt.toNat 31 + 0 + 0 = k.val
    rw [hs, hk]
    clear hk hs
    revert k; decide
  | ⟨1, _⟩ =>
    show 0 + 0 + j.val = j.val
    omega

/-- The looked-up row at a batch row whose action type is the number `k` is row `k` of the table. -/
theorem taken_at (e : FVec Ideal S32x64 .f32) (a : IVec S32 32) (k : Fin 32 → Fin 32) (hk : ∀ b, a (ix1 b) = BitVec.ofNat 32 (k b).val)
    (b : Fin 32) (p : Fin 2048) (j : Fin 64) : taken e a (ix3 b p j) = e (ix2 (k b) j) := by
  unfold taken
  pointwise
  rw [inside_at a k hk]
  exact gather_at e (places a) b p j (k b) (places_at a b p 0 (k b) (hk b))

end Cert.ReferenceIdeal.Take
end
-- ==== Proof.RefValue.lean ====
module

public import proofs.«01_k».proof.Proof.RefTake

/-!
The reference's result read at an index, over the extended reals.
-/

@[expose] public section
set_option maxRecDepth 16384
noncomputable section

namespace Cert.ReferenceIdeal.Net

open Cert.ReferenceIdeal Cert.ReferenceIdeal.Gen Idealize.ShloMosaic Cert.ReferenceIdeal.Take

/-- Each observation followed by its looked-up embedding row. -/
def joined (x : FVec Ideal S32x2048x64 .f32) (e : FVec Ideal S32x64 .f32) (a : IVec S32 32) : FVec Ideal S32x2048x128 .f32 :=
  concatenate S32x2048x128 2 [⟨S32x2048x64, x⟩, ⟨S32x2048x64, taken e a⟩] concatenates_S32x2048x64_S32x2048x64_S32x2048x128_d2

/-- The hidden layer. -/
def hidden (x : FVec Ideal S32x2048x64 .f32) (e : FVec Ideal S32x64 .f32) (a : IVec S32 32) (w : FVec Ideal S128x512 .f32)
    (b : FVec Ideal S512 .f32) : FVec Ideal S32x2048x512 .f32 :=
  maximumf
    (addf (Host.dotGeneral dot_S32x2048x128_S128x512_S32x2048x512_2_0_01_1_n_n none (joined x e a) w)
      (broadcastInDim S32x2048x512 ![0, 1, 2] bcast_S1x1x512_S32x2048x512_0_1_2 (broadcastInDim S1x1x512 ![2] bcast_S512_S1x1x512_2 b)))
    (broadcastInDim S32x2048x512 ![] bcast_S_S32x2048x512 (constant S_ .f32 0x00000000#32))

/-- The reference's result, as a function of its arguments. -/
def value (x : FVec Ideal S32x2048x64 .f32) (a : IVec S32 32) (e : FVec Ideal S32x64 .f32) (w : FVec Ideal S128x512 .f32)
    (b : FVec Ideal S512 .f32) (w' : FVec Ideal S512x1024 .f32) (b' : FVec Ideal S1024 .f32) : FVec Ideal S32x2048x1024 .f32 :=
  addf (Host.dotGeneral dot_S32x2048x512_S512x1024_S32x2048x1024_2_0_01_1_n_n none (hidden x e a w b) w')
    (broadcastInDim S32x2048x1024 ![0, 1, 2] bcast_S1x1x1024_S32x2048x1024_0_1_2 (broadcastInDim S1x1x1024 ![2] bcast_S1024_S1x1x1024_2 b'))

/-- The first 64 entries of a joined row are the observation. -/
theorem joined_left (x : FVec Ideal S32x2048x64 .f32) (e : FVec Ideal S32x64 .f32) (a : IVec S32 32)
    (r : Fin 32) (p : Fin 2048) (j : Fin 64) : joined x e a (ix3 r p ⟨j.val, by omega⟩) = x (ix3 r p j) := by
  pointwise [joined]

/-- The last 64 entries of a joined row are the looked-up embedding row. -/
theorem joined_right (x : FVec Ideal S32x2048x64 .f32) (e : FVec Ideal S32x64 .f32) (a : IVec S32 32)
    (r : Fin 32) (p : Fin 2048) (j : Fin 64) : joined x e a (ix3 r p ⟨64 + j.val, by omega⟩) = taken e a (ix3 r p j) := by
  pointwise [joined]

/-- The hidden layer at batch row `r`, time `p`, unit `h`: the observation times the upper half of the weights, plus the
    embedding row times the lower half and the bias, cut off below zero. -/
theorem hidden_at (x : FVec Ideal S32x2048x64 .f32) (e : FVec Ideal S32x64 .f32) (a : IVec S32 32) (w : FVec Ideal S128x512 .f32)
    (b : FVec Ideal S512 .f32) (k : Fin 32 → Fin 32) (hk : ∀ r, a (ix1 r) = BitVec.ofNat 32 (k r).val)
    (r : Fin 32) (p : Fin 2048) (h : Fin 512) :
    hidden x e a w b (ix3 r p h)
      = max ((∑ j : Fin 64, x (ix3 r p j) * w (ix2 ⟨j.val, by omega⟩ h))
          + ((∑ j : Fin 64, e (ix2 (k r) j) * w (ix2 ⟨64 + j.val, by omega⟩ h)) + b (ix1 h))) (0 : EReal) := by
  have hd : Host.dotGeneral dot_S32x2048x128_S128x512_S32x2048x512_2_0_01_1_n_n none (joined x e a) w (ix3 r p h)
      = ∑ i : Fin 128, (joined x e a (ix3 r p i) * w (ix2 i h) : EReal) := by
    pointwise
  have hs := Fin.sum_univ_two_halves 64 64 rfl fun i : Fin 128 => (joined x e a (ix3 r p i) * w (ix2 i h) : EReal)
  have ht : hidden x e a w b (ix3 r p h) = max (Host.dotGeneral dot_S32x2048x128_S128x512_S32x2048x512_2_0_01_1_n_n none (joined x e a) w (ix3 r p h) + b (ix1 h)) (0 : EReal) := by
    unfold hidden
    generalize Host.dotGeneral dot_S32x2048x128_S128x512_S32x2048x512_2_0_01_1_n_n none (joined x e a) w = D
    pointwise
  rw [ht, hd, hs, add_assoc]
  simp only [joined_left, joined_right, taken_at e a k hk]

/-- The reference's result at batch row `r`, time `p`, output `d`. -/
theorem value_at (x : FVec Ideal S32x2048x64 .f32) (a : IVec S32 32) (e : FVec Ideal S32x64 .f32) (w : FVec Ideal S128x512 .f32)
    (b : FVec Ideal S512 .f32) (w' : FVec Ideal S512x1024 .f32) (b' : FVec Ideal S1024 .f32)
    (k : Fin 32 → Fin 32) (hk : ∀ r, a (ix1 r) = BitVec.ofNat 32 (k r).val) (r : Fin 32) (p : Fin 2048) (d : Fin 1024) :
    value x a e w b w' b' (ix3 r p d)
      = ((∑ h : Fin 512, max ((∑ j : Fin 64, x (ix3 r p j) * w (ix2 ⟨j.val, by omega⟩ h))
          + ((∑ j : Fin 64, e (ix2 (k r) j) * w (ix2 ⟨64 + j.val, by omega⟩ h)) + b (ix1 h))) (0 : EReal) * w' (ix2 h d))
        + b' (ix1 d) : EReal) := by
  simp only [← hidden_at x e a w b k hk]
  unfold value
  generalize hidden x e a w b = H
  pointwise

end Cert.ReferenceIdeal.Net
end
-- ==== Proof.RefRun.lean ====
module

public import proofs.«01_k».proof.Proof.Gen.ReferenceIdeal.Run
public import proofs.«01_k».proof.Proof.RefValue

/-!
The reference's run, its result named.
-/

@[expose] public section
set_option maxRecDepth 16384
noncomputable section

namespace Cert.ReferenceIdeal.Net

open Cert.ReferenceIdeal Cert.ReferenceIdeal.Gen Idealize.ShloMosaic Idealize.ShloMosaic.TcCoe Idealize.SL.Sem Cert.ReferenceIdeal.Take

/-- The reference runs to its end with `value` of its arguments as the result, and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12)
          = value (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (by unfold value hidden joined taken inside places types; rfl), (h c).2⟩)
    (Value.run (F := Ideal) m ρ)

end Cert.ReferenceIdeal.Net
end
-- ==== Proof.Types.lean ====
module

public import proofs.«01_k».proof.Pre_types_in_table
public import Idealize.ShloMosaic.Lib.Pointwise
public import Idealize.ShloMosaic.Lib.Tactic.WordOmega

/-!
The precondition: every action type is a row number of the embedding table.
-/

@[expose] public section
noncomputable section

namespace Cert.Types

open Idealize.ShloMosaic Cert.Pre_types_in_table

/-- The one shape relation that the precondition's program uses. -/
instance facts : Cert.Pre_types_in_table.Facts := ⟨by decide⟩

/-- A word that is at least zero and below 32, both read signed, is a number below 32. -/
theorem lt_of_tests (w : BitVec 32) (h : IntOp.andi (IntOp.cmpi .sge w 0#32) (IntOp.cmpi .slt w 32#32) = 1#1) : w.toNat < 32 := by
  word_omega

/-- Under the precondition every action type is the number of a row of the embedding table. -/
theorem rows [Cert.Pre_types_in_table.Facts] (x : FVec Ideal S32x2048x64 .f32) (a : IVec S32 32) (e : FVec Ideal S32x64 .f32)
    (w : FVec Ideal S128x512 .f32) (b : FVec Ideal S512 .f32) (w' : FVec Ideal S512x1024 .f32) (b' : FVec Ideal S1024 .f32)
    (h : fn (F := Ideal) x a e w b w' b' = fun _ => 1#1) :
    ∃ k : Fin 32 → Fin 32, ∀ r, a (ix1 r) = BitVec.ofNat 32 (k r).val := by
  have ht : ∀ r : Fin 32, (a (ix1 r)).toNat < 32 := fun r => lt_of_tests _ (by
    have hr := congrFun h (ix1 r)
    unfold fn at hr
    pointwise at hr
    exact hr)
  exact ⟨fun r => ⟨(a (ix1 r)).toNat, ht r⟩, fun r => by simp⟩

end Cert.Types
end
-- ==== Proof.Body.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

/-!
What each grid point leaves behind: the carried table of hidden contributions, which the first point fills and every
later point keeps, and the output block that is computed from it.
-/

@[expose] public section
set_option maxRecDepth 16384
noncomputable section

namespace Cert.KernelIdeal.Body

open Cert.KernelIdeal Cert.KernelIdeal.Gen Idealize.ShloMosaic Idealize.ShloMosaic.TcCoe Idealize.SL.Sem

variable (m : (ℓ : Loc nD τ sig) → Buf (Elt Ideal) ℓ)

/-- The grid has sixteen points. -/
theorem points : cfg0.N = 16 := N_0

/-- The first grid point. -/
def first : Fin cfg0.N := ⟨0, by rw [points]; decide⟩

/-- The table of hidden contributions: what the action types, the embedding table, the lower half of the first
    weights and the first bias give, two batch rows for each grid point. -/
def table (c : Dev nD) : Vec Ideal S16x2x512 .f32 :=
  k0_pay1 (F := Ideal) (iblk m c 1 first) (iblk m c 2 first) (iblk m c 3 first) (iblk m c 4 first)

/-- The two rows of a table that grid point `t` reads. -/
def rows (t : Fin cfg0.N) (X : Vec Ideal S16x2x512 .f32) : Vec Ideal S1x2x512 .f32 :=
  View.ld X (Rect.unit (k0_off1 (grid0.coords t)) S1x2x512.size (k0_off1_inb (grid0.coords t)))

/-- After the first grid point the carried buffer holds the table. -/
theorem carried_first (c : Dev nD) : (outsAt0 m c first.val first.isLt).2 = table m c := by
  rw [outsAt0_A m c first (by decide)]
  frame_out
  rfl

/-- A later grid point leaves the carried buffer as it found it. -/
theorem carried_later (c : Dev nD) (t : Fin cfg0.N) (h0 : ¬t.val % 16 = 0) :
    (outsAt0 m c t.val t.isLt).2 = (outsAt0 m c (t.val - 1) (by have := t.isLt; omega)).2 := by
  rw [outsAt0_B m c t h0]
  rfl

/-- After every grid point the carried buffer holds the table. -/
theorem carried (c : Dev nD) : ∀ (n : ℕ) (hn : n < cfg0.N), (outsAt0 m c n hn).2 = table m c
  | 0, _ => carried_first m c
  | n + 1, hn => by
    have hlt : n + 1 < 16 := points ▸ hn
    rw [carried_later m c ⟨n + 1, hn⟩ (by show ¬(n + 1) % 16 = 0; omega)]
    exact carried c n (by omega)

/-- Every grid point's output block is the two-layer network on its block of observations, with the two rows of the
    table that belong to the point. -/
theorem block (c : Dev nD) (t : Fin cfg0.N) :
    (outsAt0 m c t.val t.isLt).1
      = k0_pay2 (F := Ideal) (iblk m c 0 t) (iblk m c 5 t) (rows t (table m c)) (iblk m c 6 t) (iblk m c 7 t) := by
  by_cases h0 : t.val % 16 = 0
  · have ht : t = first := Fin.ext (by have hlt : t.val < 16 := points ▸ t.isLt; show t.val = 0; omega)
    subst ht
    rw [outsAt0_A m c first h0]
    frame_open
    simp (disch := decide) only [↓ View.readCov_skip, ↓ View.readCov_cons_toLoadRect, ↓ View.readCov_fill]
    frame_out
    rfl
  · rw [outsAt0_B m c t h0]
    frame_out
    simp only [read_unread_whole]
    rw [carried m c]
    rfl

end Cert.KernelIdeal.Body
end
-- ==== Proof.Blocks.lean ====
module

public import proofs.«01_k».proof.Proof.Body

/-!
What each grid point's input blocks hold, in terms of the kernel's arguments.
-/

@[expose] public section
set_option maxRecDepth 16384
noncomputable section

namespace Cert.KernelIdeal.Blocks

open Cert.KernelIdeal Cert.KernelIdeal.Gen Idealize.ShloMosaic Idealize.ShloMosaic.TcCoe Idealize.SL.Sem Cert.KernelIdeal.Body

variable (m : (ℓ : Loc nD τ sig) → Buf (Elt Ideal) ℓ)

/-- At every grid point: the observations' block is the point's, every other input block is the first. -/
theorem indices : ∀ t : Fin cfg0.N, (cfg0.win 0).index t = ![t.val, 0, 0] ∧ (cfg0.win 1).index t = ![0, 0] ∧ (cfg0.win 2).index t = ![0, 0]
    ∧ (cfg0.win 3).index t = ![0, 0] ∧ (cfg0.win 4).index t = ![0, 0] ∧ (cfg0.win 5).index t = ![0, 0]
    ∧ (cfg0.win 6).index t = ![0, 0] ∧ (cfg0.win 7).index t = ![0, 0] :=
  (by decide +kernel)

theorem iblk0 (c : Dev nD) (t : Fin cfg0.N) (r : Fin 2) (p : Fin 2048) (j : Fin 64) :
    iblk m c 0 t (ix3 r p j) = m ((c : Thread nD τ).loc main_arg0) (ix3 ⟨2 * t.val + r.val, by have h := t.isLt; have := points; omega⟩ p j) := by
  blk_ext [iblk, V, indices t]

theorem iblk1 (c : Dev nD) (t : Fin cfg0.N) (z : Fin 1) (r : Fin 32) :
    iblk m c 1 t (ix2 z r) = m ((c : Thread nD τ).loc main_arg1) (ix1 r) := by
  blk_point [iblk, V, indices t]

theorem iblk2 (c : Dev nD) (t : Fin cfg0.N) (r : Fin 32) (j : Fin 64) :
    iblk m c 2 t (ix2 r j) = m ((c : Thread nD τ).loc main_arg2) (ix2 r j) := by
  blk_ext [iblk, V, indices t]

theorem iblk3 (c : Dev nD) (t : Fin cfg0.N) (j : Fin 64) (h : Fin 512) :
    iblk m c 3 t (ix2 j h) = m ((c : Thread nD τ).loc main_arg3) (ix2 ⟨64 + j.val, by omega⟩ h) := by
  blk_point [iblk, V, indices t]

theorem iblk4 (c : Dev nD) (t : Fin cfg0.N) (z : Fin 1) (h : Fin 512) :
    iblk m c 4 t (ix2 z h) = m ((c : Thread nD τ).loc main_arg4) (ix1 h) := by
  blk_point [iblk, V, indices t]

theorem iblk5 (c : Dev nD) (t : Fin cfg0.N) (j : Fin 64) (h : Fin 512) :
    iblk m c 5 t (ix2 j h) = m ((c : Thread nD τ).loc main_arg3) (ix2 ⟨j.val, by omega⟩ h) := by
  blk_point [iblk, V, indices t]

theorem iblk6 (c : Dev nD) (t : Fin cfg0.N) (h : Fin 512) (d : Fin 1024) :
    iblk m c 6 t (ix2 h d) = m ((c : Thread nD τ).loc main_arg5) (ix2 h d) := by
  blk_point [iblk, V, indices t]

theorem iblk7 (c : Dev nD) (t : Fin cfg0.N) (z : Fin 1) (d : Fin 1024) :
    iblk m c 7 t (ix2 z d) = m ((c : Thread nD τ).loc main_arg6) (ix1 d) := by
  blk_point [iblk, V, indices t]

end Cert.KernelIdeal.Blocks
end
-- ==== Proof.Payloads.lean ====
module

public import proofs.«01_k».proof.Proof.Gen.KernelIdeal.Skeleton
public import Idealize.ShloMosaic.Lib.Pointwise

/-!
The kernel's two computations read at an index, over the extended reals.
-/

@[expose] public section
set_option maxRecDepth 16384
noncomputable section

namespace Cert.KernelIdeal.Payloads

open Cert.KernelIdeal Cert.KernelIdeal.Gen Idealize.ShloMosaic

/-- The number made of the comparison of two words: one where they are the same number below 32, else zero. -/
theorem indicator (n k : Fin 32) :
    (FloatOps.sitofp FTy.f32 (BitVec.setWidth 32 (IntOp.cmpi CmpIPredicate.eq (BitVec.ofNat 32 n.val) (BitVec.ofNat 32 k.val))) : Ideal .f32)
      = if n = k then (1 : EReal) else 0 := by
  by_cases h : n = k
  · subst h
    rw [if_pos rfl]
    have : BitVec.setWidth 32 (IntOp.cmpi CmpIPredicate.eq (BitVec.ofNat 32 n.val) (BitVec.ofNat 32 n.val)) = 1#32 := by
      revert n; decide
    rw [this]
    show (((1#32 : BitVec 32).toInt : ℝ) : EReal) = 1
    simp
  · rw [if_neg h]
    have : BitVec.setWidth 32 (IntOp.cmpi CmpIPredicate.eq (BitVec.ofNat 32 n.val) (BitVec.ofNat 32 k.val)) = 0#32 := by
      revert n k; decide
    rw [this]
    show (((0#32 : BitVec 32).toInt : ℝ) : EReal) = 0
    simp

/-- A sum weighted by the one-hot row of the word `z`, which is the number `k`, is the summand at `k`. -/
theorem oneHot_sum (k : Fin 32) (z : BitVec 32) (hz : z = BitVec.ofNat 32 k.val) (f : Fin 32 → EReal) :
    (∑ n : Fin 32, (FloatOps.sitofp FTy.f32
        (BitVec.setWidth 32 (IntOp.cmpi CmpIPredicate.eq (BitVec.ofNat 32 n.val) z)) : Ideal .f32) * f n) = f k := by
  subst hz
  simp only [indicator, ite_mul, one_mul, zero_mul, Finset.sum_ite_eq', Finset.mem_univ, if_true]

/-- The table of hidden contributions at row `r` of grid point `i`: where the batch row's action type is the number
    `k` below 32, row `k` of the embedding table times the weights, plus the bias. -/
theorem table_at (a : Vec Ideal S1x32 .i32) (e : Vec Ideal S32x64 .f32) (w : Vec Ideal S64x512 .f32)
    (b : Vec Ideal S1x512 .f32) (i : Fin 16) (r : Fin 2) (h : Fin 512) (k : Fin 32)
    (hk : a (ix2 0 ⟨i.val * 2 + r.val, by omega⟩) = BitVec.ofNat 32 k.val) :
    k0_pay1 (F := Ideal) a e w b (ix3 i r h) = ((∑ j : Fin 64, e (ix2 k j) * w (ix2 j h)) + b (ix2 0 h) : EReal) := by
  pointwise [k0_pay1]
  exact congrArg (· + b (ix2 0 h)) (Finset.sum_congr rfl fun j _ => congrArg (· * w (ix2 j h)) (oneHot_sum k _ hk fun n => e (ix2 n j)))

/-- The output block at row `r`, time `p`, output `d`: the hidden layer (observations times weights, plus the
    table's row, cut off below zero) times the second weights, plus the second bias. -/
theorem block_at (x : Vec Ideal S2x2048x64 .f32) (w : Vec Ideal S64x512 .bf16) (a : Vec Ideal S1x2x512 .f32)
    (v : Vec Ideal S512x1024 .bf16) (b : Vec Ideal S1x1024 .f32) (r : Fin 2) (p : Fin 2048) (d : Fin 1024) :
    k0_pay2 (F := Ideal) x w a v b (ix3 r p d)
      = ((∑ h : Fin 512, max ((∑ j : Fin 64, x (ix3 r p j) * w (ix2 j h)) + a (ix3 0 r h)) 0 * v (ix2 h d)) + b (ix2 0 d) : EReal) := by
  pointwise [k0_pay2]

end Cert.KernelIdeal.Payloads
end
-- ==== Proof.Equation.lean ====
module

public import proofs.«01_k».proof.Proof.Blocks
public import proofs.«01_k».proof.Proof.Payloads
public import proofs.«01_k».proof.Proof.RefValue

/-!
The kernel's result is the reference's: both read at one index.
-/

@[expose] public section
set_option maxRecDepth 16384
noncomputable section

namespace Cert.KernelIdeal.Equation

open Cert.KernelIdeal Cert.KernelIdeal.Gen Idealize.ShloMosaic Idealize.ShloMosaic.TcCoe Idealize.SL.Sem Cert.KernelIdeal.Body
  Cert.KernelIdeal.Blocks Cert.KernelIdeal.Payloads

variable (m : (ℓ : Loc nD τ sig) → Buf (Elt Ideal) ℓ)

/-- The rows of the carried table are read at the grid point's own number. -/
theorem offset : ∀ t : Fin cfg0.N, k0_off1 (grid0.coords t) = ![t.val, 0, 0] := by decide +kernel

/-- Grid point `t` reads rows `t` of the table. -/
theorem rows_at (t : Fin cfg0.N) (X : Vec Ideal S16x2x512 .f32) (r : Fin 2) (h : Fin 512) :
    rows t X (ix3 0 r h) = X (ix3 ⟨t.val, points ▸ t.isLt⟩ r h) := by
  unfold rows
  refine congrArg X (funext fun a => Fin.ext ?_)
  have ho := offset t
  match a with
  | ⟨0, _⟩ => show k0_off1 (grid0.coords t) 0 + 1 * 0 = t.val; rw [ho]; rfl
  | ⟨1, _⟩ => show k0_off1 (grid0.coords t) 1 + 1 * r.val = r.val; rw [ho]; show 0 + 1 * r.val = r.val; omega
  | ⟨2, _⟩ => show k0_off1 (grid0.coords t) 2 + 1 * h.val = h.val; rw [ho]; show 0 + 1 * h.val = h.val; omega

/-- What grid point `t` writes at row `r`, time `p`, output `d`, in terms of the arguments. -/
theorem point_at (c : Dev nD) (k : Fin 32 → Fin 32) (hk : ∀ b, m ((c : Thread nD τ).loc main_arg1) (ix1 b) = BitVec.ofNat 32 (k b).val)
    (t : Fin cfg0.N) (r : Fin 2) (p : Fin 2048) (d : Fin 1024) (b : Fin 32) (hb : b.val = 2 * t.val + r.val) :
    (outsAt0 m c t.val t.isLt).1 (ix3 r p d)
      = Cert.ReferenceIdeal.Net.value (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (ix3 b p d) := by
  have hbt : b = ⟨2 * t.val + r.val, by omega⟩ := Fin.ext hb
  have ht : ∀ h : Fin 512, rows t (table m c) (ix3 0 r h) = _ := fun h =>
    (rows_at t (table m c) r h).trans
      (table_at _ _ _ _ ⟨t.val, points ▸ t.isLt⟩ r h (k b) ((iblk1 m c first 0 _).trans (by
        rw [← hk b]; exact congrArg _ (congrArg ix1 (Fin.ext (by show t.val * 2 + r.val = b.val; omega))))))
  rw [Cert.ReferenceIdeal.Net.value_at _ _ _ _ _ _ _ k hk, block, block_at]
  simp only [ht, iblk0, iblk2, iblk3, iblk4, iblk5, iblk6, iblk7, ← hbt]

/-- The kernel's result array is the reference's. -/
theorem result (c : Dev nD) (k : Fin 32 → Fin 32) (hk : ∀ b, m ((c : Thread nD τ).loc main_arg1) (ix1 b) = BitVec.ofNat 32 (k b).val) :
    Cert.ReferenceIdeal.Net.value (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) = Value.G8 m c := by
  funext i
  have h0 : (i 0).val < 32 := (i 0).isLt
  have h1 : (i 1).val < 2048 := (i 1).isLt
  have h2 : (i 2).val < 1024 := (i 2).isLt
  have hn : Value.pt8Of i = (i 0).val / 2 := by show 1 * ((i 0).val / 2 - 0) + 1 * ((i 1).val / 2048 - 0) + 1 * ((i 2).val / 1024 - 0) = _; omega
  have hN : Value.pt8Of i < cfg0.N := by rw [hn, points]; omega
  unfold Value.G8
  rw [dif_pos hN, ← Value.outsAt0_sweep m c (Value.pt8Of i) hN]
  have hl : Value.loc8Of i = ix3 ⟨(i 0).val % 2, by omega⟩ (i 1) (i 2) := by
    funext a
    match a with
    | ⟨0, _⟩ => rfl
    | ⟨1, _⟩ => exact Fin.ext (Nat.mod_eq_of_lt h1)
    | ⟨2, _⟩ => exact Fin.ext (Nat.mod_eq_of_lt h2)
  have hi : i = ix3 (i 0) (i 1) (i 2) := by
    funext a
    match a with
    | ⟨0, _⟩ => rfl
    | ⟨1, _⟩ => rfl
    | ⟨2, _⟩ => rfl
  rw [hl]
  refine Eq.trans (congrArg _ hi) (point_at m c k hk ⟨Value.pt8Of i, hN⟩ ⟨(i 0).val % 2, by omega⟩ (i 1) (i 2) (i 0) ?_).symm
  show (i 0).val = 2 * Value.pt8Of i + (i 0).val % 2
  omega

end Cert.KernelIdeal.Equation
end
-- ==== Proof.lean ====
module

public import proofs.«01_k».proof.Defs
public import proofs.«01_k».proof.Proof.Gen.Kernel.Frame
public import proofs.«01_k».proof.Proof.Gen.KernelIdeal.Value
public import proofs.«01_k».proof.Proof.RefRun
public import proofs.«01_k».proof.Proof.Types
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to its end from any memory, leaves its arguments as they were and every counter at zero. -/
theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Net.run m ρ)

/-- Where every action type is a row number of the embedding table, the kernel and the reference, run on the same
    arguments, end with the same result. -/
theorem algebraic_KernelIdeal_ReferenceIdeal : Cert.algebraic_KernelIdeal_ReferenceIdeal_pre_types_in_table := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Net.run m' ρ')
  obtain ⟨k, hk⟩ := Cert.Types.rows _ _ _ _ _ _ _ (hpre c)
  obtain ⟨h0, h1, h2, h3, h4, h5, h6⟩ := hagree c
  rw [(h c).1, h0, h1, h2, h3, h4, h5, h6]
  exact Cert.KernelIdeal.Equation.result m c k hk

/-- The certificate's claim. -/
theorem claim : Cert.Claim :=
  ⟨Cert.Kernel.Gen.facts, Cert.KernelIdeal.Gen.facts, Cert.ReferenceIdeal.Gen.facts, Cert.Types.facts,
    fun m ρ _ => Cert.Kernel.Gen.frame m ρ,
    fun m ρ _ => Cert.KernelIdeal.Gen.frame m ρ,
    fun m ρ _ => Cert.KernelIdeal.Gen.frame m ρ,
    quiescent_ReferenceIdeal,
    fun m ρ _ => quiescent_ReferenceIdeal m ρ trivial,
    (trivial : Cert.preserves_Kernel_KernelIdeal),
    algebraic_KernelIdeal_ReferenceIdeal⟩

end Cert.Proof

end
